-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v9) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ bitexact_Kernel_Reference (hKernel := hKernel) (hReference := hReference)
    ∧ algebraic_KernelIdeal_ReferenceIdeal (hKernelIdeal := hKernelIdeal) (hReferenceIdeal := hReferenceIdeal)
-- ==== Kernel.lean ====
abbrev S8x768x32x32 : Shape := ⟨4, ![8, 768, 32, 32]⟩
abbrev S50x256 : Shape := ⟨2, ![50, 256]⟩
abbrev S32x32x512 : Shape := ⟨3, ![32, 32, 512]⟩
abbrev S8x256 : Shape := ⟨2, ![8, 256]⟩
abbrev S32x256 : Shape := ⟨2, ![32, 256]⟩
abbrev S8x32x512 : Shape := ⟨3, ![8, 32, 512]⟩
abbrev S8x1x256 : Shape := ⟨3, ![8, 1, 256]⟩
abbrev S8x32x256 : Shape := ⟨3, ![8, 32, 256]⟩
abbrev S1x32x256 : Shape := ⟨3, ![1, 32, 256]⟩
abbrev S1x32x32x512 : Shape := ⟨4, ![1, 32, 32, 512]⟩
abbrev S1x512x32x32 : Shape := ⟨4, ![1, 512, 32, 32]⟩

abbrev nBuf : Space → Nat
  | .hbm => 6
  | .vmem => 5
  | .smem => 0
  | _ => 0

abbrev bufTy : (tb : Table) → Fin (tcTables nBuf tb) → BufTy
  | .hbm, ⟨0, _⟩ => ⟨S8x768x32x32, .f32⟩
  | .hbm, ⟨1, _⟩ => ⟨S50x256, .f32⟩
  | .hbm, ⟨2, _⟩ => ⟨S50x256, .f32⟩
  | .hbm, ⟨3, _⟩ => ⟨S32x32x512, .f32⟩
  | .hbm, ⟨4, _⟩ => ⟨S1x32x32x512, .f32⟩
  | .hbm, ⟨5, _⟩ => ⟨S1x512x32x32, .f32⟩
  | .local _ .vmem, ⟨0, _⟩ => ⟨S8x256, .f32⟩
  | .local _ .vmem, ⟨1, _⟩ => ⟨S8x256, .f32⟩
  | .local _ .vmem, ⟨2, _⟩ => ⟨S32x256, .f32⟩
  | .local _ .vmem, ⟨3, _⟩ => ⟨S8x32x512, .f32⟩
  | .local _ .vmem, ⟨4, _⟩ => ⟨S8x32x512, .f32⟩
  | _, _ => ⟨S8x768x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference.lean ====
abbrev S8x768x32x32 : Shape := ⟨4, ![8, 768, 32, 32]⟩
abbrev S50x256 : Shape := ⟨2, ![50, 256]⟩
abbrev S32 : Shape := ⟨1, ![32]⟩
abbrev S_ : Shape := ⟨0, ![]⟩
abbrev S32x1 : Shape := ⟨2, ![32, 1]⟩
abbrev S1 : Shape := ⟨1, ![1]⟩
abbrev S1x1 : Shape := ⟨2, ![1, 1]⟩
abbrev S32x256 : Shape := ⟨2, ![32, 256]⟩
abbrev S1x32x1x256 : Shape := ⟨4, ![1, 32, 1, 256]⟩
abbrev S1x32x32x256 : Shape := ⟨4, ![1, 32, 32, 256]⟩
abbrev S1x1x32x256 : Shape := ⟨4, ![1, 1, 32, 256]⟩
abbrev S1x32x32x512 : Shape := ⟨4, ![1, 32, 32, 512]⟩
abbrev S1x512x32x32 : Shape := ⟨4, ![1, 512, 32, 32]⟩

abbrev nBuf : Space → Nat
  | .hbm => 57
  | .vmem => 0
  | .smem => 0
  | _ => 0

abbrev bufTy : (tb : Table) → Fin (tcTables nBuf tb) → BufTy
  | .hbm, ⟨0, _⟩ => ⟨S8x768x32x32, .f32⟩
  | .hbm, ⟨1, _⟩ => ⟨S50x256, .f32⟩
  | .hbm, ⟨2, _⟩ => ⟨S50x256, .f32⟩
  | .hbm, ⟨3, _⟩ => ⟨S32, .i32⟩
  | .hbm, ⟨4, _⟩ => ⟨S_, .i32⟩
  | .hbm, ⟨5, _⟩ => ⟨S32, .i32⟩
  | .hbm, ⟨6, _⟩ => ⟨S32, .i1⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S32, .i32⟩
  | .hbm, ⟨11, _⟩ => ⟨S32x1, .i32⟩
  | .hbm, ⟨12, _⟩ => ⟨S1, .i32⟩
  | .hbm, ⟨13, _⟩ => ⟨S_, .i32⟩
  | .hbm, ⟨14, _⟩ => ⟨S32x1, .i32⟩
  | .hbm, ⟨15, _⟩ => ⟨S32x1, .i1⟩
  | .hbm, ⟨16, _⟩ => ⟨S1x1, .i32⟩
  | .hbm, ⟨17, _⟩ => ⟨S32x1, .i32⟩
  | .hbm, ⟨18, _⟩ => ⟨S32x1, .i1⟩
  | .hbm, ⟨19, _⟩ => ⟨S32x1, .i1⟩
  | .hbm, ⟨20, _⟩ => ⟨S_, .i1⟩
  | .hbm, ⟨21, _⟩ => ⟨S32, .i1⟩
  | .hbm, ⟨22, _⟩ => ⟨S32x256, .f32⟩
  | .hbm, ⟨23, _⟩ => ⟨S32x256, .i1⟩
  | .hbm, ⟨24, _⟩ => ⟨S_, .f32⟩
  | .hbm, ⟨25, _⟩ => ⟨S32x256, .f32⟩
  | .hbm, ⟨26, _⟩ => ⟨S32x256, .f32⟩
  | .hbm, ⟨27, _⟩ => ⟨S1x32x1x256, .f32⟩
  | .hbm, ⟨28, _⟩ => ⟨S1x32x32x256, .f32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i1⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S32, .i32⟩
  | .hbm, ⟨37, _⟩ => ⟨S32x1, .i32⟩
  | .hbm, ⟨38, _⟩ => ⟨S1, .i32⟩
  | .hbm, ⟨39, _⟩ => ⟨S_, .i32⟩
  | .hbm, ⟨40, _⟩ => ⟨S32x1, .i32⟩
  | .hbm, ⟨41, _⟩ => ⟨S32x1, .i1⟩
  | .hbm, ⟨42, _⟩ => ⟨S1x1, .i32⟩
  | .hbm, ⟨43, _⟩ => ⟨S32x1, .i32⟩
  | .hbm, ⟨44, _⟩ => ⟨S32x1, .i1⟩
  | .hbm, ⟨45, _⟩ => ⟨S32x1, .i1⟩
  | .hbm, ⟨46, _⟩ => ⟨S_, .i1⟩
  | .hbm, ⟨47, _⟩ => ⟨S32, .i1⟩
  | .hbm, ⟨48, _⟩ => ⟨S32x256, .f32⟩
  | .hbm, ⟨49, _⟩ => ⟨S32x256, .i1⟩
  | .hbm, ⟨50, _⟩ => ⟨S_, .f32⟩
  | .hbm, ⟨51, _⟩ => ⟨S32x256, .f32⟩
  | .hbm, ⟨52, _⟩ => ⟨S32x256, .f32⟩
  | .hbm, ⟨53, _⟩ => ⟨S1x1x32x256, .f32⟩
  | .hbm, ⟨54, _⟩ => ⟨S1x32x32x256, .f32⟩
  | .hbm, ⟨55, _⟩ => ⟨S1x32x32x512, .f32⟩
  | .hbm, ⟨56, _⟩ => ⟨S1x512x32x32, .f32⟩
  | _, _ => ⟨S8x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩

abbrev nD : Nat := 1
abbrev τ : Topo := Topo.v7x

variable {F : FTy → Type} [FloatOps F]
-- ==== Proof.Embed.Spec.lean ====
/- Hand-written, untrusted: THE FUNCTION that both programs compute, written by coordinates, and the layout step that takes the
   kernel's channels-last box to the channels-first result. No program is mentioned here. -/
module

public import Idealize.ShloMosaic.Lib.Pipeline.Value
public import Idealize.ShloMosaic.Lib.ValueIdxCore
public import Idealize.ShloMosaic.Lib.ValueLayout

@[expose] public section

namespace Cert.Embed

open Idealize.ShloMosaic Idealize.ShloMosaic.ValueIdx

variable {α : Type}

/-- A table of 50 embeddings of 256 channels. -/
abbrev STable : Shape := ⟨2, ![50, 256]⟩
/-- Its first 32 embeddings. -/
abbrev SHead : Shape := ⟨2, ![32, 256]⟩
/-- The embeddings of a 32 × 32 picture, channels last. -/
abbrev SLast : Shape := ⟨3, ![32, 32, 512]⟩
/-- The same with a leading unit axis. -/
abbrev SLast1 : Shape := ⟨4, ![1, 32, 32, 512]⟩
/-- The result: channels first. -/
abbrev SFirst : Shape := ⟨4, ![1, 512, 32, 32]⟩

/-- The entry `(r, k)` of a table, `r` among its first 32 rows. -/
def entry (x : STable.Idx → α) (r : Fin 32) (k : Fin 256) : α := x (ix2 ⟨r.val, by omega⟩ k)

/-- Channel `k` of the picture's position `(r, s)`: the row table's channel `k` of row `r` for `k < 256`, else the column
    table's channel `k - 256` of row `s`. -/
def value (row col : STable.Idx → α) (r s : Fin 32) (k : Fin 512) : α :=
  if h : k.val < 256 then entry row r ⟨k.val, h⟩ else entry col s ⟨k.val - 256, by omega⟩

theorem value_left (row col : STable.Idx → α) (r s : Fin 32) (k : Fin 512) (h : k.val < 256) :
    value row col r s k = entry row r ⟨k.val, h⟩ := dif_pos h

theorem value_right (row col : STable.Idx → α) (r s : Fin 32) (k : Fin 512) (h : ¬ k.val < 256) :
    value row col r s k = entry col s ⟨k.val - 256, by omega⟩ := dif_neg h

/-- The position embeddings, channels last: what the kernel's blocks fill. -/
def last (row col : STable.Idx → α) : SLast.Idx → α := fun i => value row col (i 0) (i 1) (i 2)

/-- The position embeddings, channels first: the result of both programs. -/
def first (row col : STable.Idx → α) : SFirst.Idx → α := fun i => value row col (i 2) (i 3) (i 1)

/-- The host's two lines after the kernel, a leading unit axis and the channels moved to the front, take the one to the other. -/
theorem transpose_last (row col : STable.Idx → α) (hc : SLast.ShapeCasts SLast1) (ht : SLast1.Transposes [0, 3, 1, 2] SFirst) :
    transpose SFirst [0, 3, 1, 2] (shapeCast SLast1 (last row col) hc) ht = first row col := by
  funext j
  obtain ⟨u, k, r, s, rfl⟩ : ∃ u k r s, j = ix4 u k r s := ⟨_, _, _, _, eq_ix4 j⟩
  refine (transpose_apply _ _ ht _ (ix4 u r s k) fun b => ?_).trans (shapeCast_abc_1abc_apply _ hc u r s k)
  match b with
  | ⟨0, _⟩ => rfl
  | ⟨1, _⟩ => rfl
  | ⟨2, _⟩ => rfl
  | ⟨3, _⟩ => rfl

end Cert.Embed
-- ==== Proof.Embed.Kernel.lean ====
/- Hand-written, untrusted: WHAT THE KERNEL COMPUTES. One block (`out_apply`), what the two input windows stage (`rows_apply`,
   `cols_apply`), the kernel's array (`final`), and the whole program's result after the host's two lines (`run`), for any float
   values. -/
module

public import proofs.«01_k».proof.Proof.Embed.Spec
public import proofs.«01_k».proof.Proof.Gen.Kernel.Frame
public import Idealize.ShloMosaic.Lib.WritesUnit
public import Idealize.ShloMosaic.Lib.StableHlo.Run

@[expose] public section

noncomputable section

namespace Cert.Kernel.Embed

open Cert.Kernel Cert.Kernel.Gen Cert.Embed
open Idealize.ShloMosaic Idealize.ShloMosaic.TcCoe Idealize.ShloMosaic.ValueIdx Idealize.SL.Sem
open Idealize.ShloMosaic.Pipeline (Dat)

variable {F : FTy → Type} [FloatOps F]

/-! ## One block -/

/-- The first store's payload: row `a` of the staged rows, repeated along the width. -/
theorem pay1_apply (x : Vec F S8x256 .f32) (a : Fin 8) (b : Fin 32) (k : Fin 256) : k0_pay1 x (ix3 a b k) = x (ix2 a k) := by
  unfold k0_pay1
  refine (broadcastTo_apply _ _ _ (ix3 a (0 : Fin 1) k) fun c => ?_).trans ?_
  · match c with
    | ⟨0, _⟩ => rfl
    | ⟨1, _⟩ => rfl
    | ⟨2, _⟩ => rfl
  rw [shapeCast_self]
  refine shapeCast_apply _ _ _ _ ?_
  rw [Shape.rowMajor_val_two, Shape.rowMajor_val_three]
  show a.val * 256 + k.val = (a.val * 1 + 0) * 256 + k.val
  omega

/-- The second store's payload: row `b` of the staged columns, repeated along the block's rows. -/
theorem pay2_apply (x : Vec F S32x256 .f32) (a : Fin 8) (b : Fin 32) (k : Fin 256) : k0_pay2 x (ix3 a b k) = x (ix2 b k) := by
  unfold k0_pay2
  refine (broadcastTo_apply _ _ _ (ix3 (0 : Fin 1) b k) fun c => ?_).trans ?_
  · match c with
    | ⟨0, _⟩ => rfl
    | ⟨1, _⟩ => rfl
    | ⟨2, _⟩ => rfl
  rw [shapeCast_self]
  exact shapeCast_ab_1ab_apply _ _ _ _ _

/-- What the body leaves in the result's staging buffer, at `(a, b, k)`: the two stores side by side in the channels. -/
theorem out_apply (c : Dev nD) (i : grid0.Coords) (arg1 : Memref sig .tc .vmem S8x256 .f32) (harg1 : arg1.IsWhole)
    (arg2 : Memref sig .tc .vmem S32x256 .f32) (harg2 : arg2.IsWhole) (arg3 : Memref sig .tc .vmem S8x32x512 .f32) (harg3 : arg3.IsWhole)
    (x0 : Vec F S8x256 .f32) (x1 : Vec F S32x256 .f32) (a : Fin 8) (b : Fin 32) (k : Fin 512) :
    out0_A_2 c i arg1 harg1 arg2 harg2 arg3 harg3 x0 x1 (ix3 a b k)
      = if h : k.val < 256 then x0 (ix2 a ⟨k.val, h⟩) else x1 (ix2 b ⟨k.val - 256, by omega⟩) := by
  unfold out0_A_2 kernelRun0_A
  by_cases h : k.val < 256
  · rw [dif_pos h]
    refine (View.read_writes_cons_unit_of_not_mem _ _ _ _ _ _ rfl (2 : Fin 3) (Or.inl h)).trans ?_
    refine (View.read_writes_cons_unit_of_mem _ _ _ _ _ _ (ix3 a b (⟨k.val, h⟩ : Fin 256)) rfl fun d => ?_).trans ?_
    · match d with
      | ⟨0, _⟩ => exact (Nat.zero_add _).symm
      | ⟨1, _⟩ => exact (Nat.zero_add _).symm
      | ⟨2, _⟩ => exact (Nat.zero_add _).symm
    refine (pay1_apply _ a b _).trans ?_
    rw [View.readAt_apply, harg1.read_unread]
    congr 1
    funext d; apply Fin.ext
    match d with
    | ⟨0, _⟩ => show 0 + 1 * a.val = a.val; omega
    | ⟨1, _⟩ => show 0 + 1 * k.val = k.val; omega
  · rw [dif_neg h]
    refine (View.read_writes_cons_unit_of_mem _ _ _ _ _ _ (ix3 a b (⟨k.val - 256, by omega⟩ : Fin 256)) rfl fun d => ?_).trans ?_
    · match d with
      | ⟨0, _⟩ => exact (Nat.zero_add _).symm
      | ⟨1, _⟩ => exact (Nat.zero_add _).symm
      | ⟨2, _⟩ => show k.val = 256 + (k.val - 256); omega
    refine (pay2_apply _ a b _).trans ?_
    rw [View.readAt_apply, harg2.read_unread]
    congr 1
    funext d; apply Fin.ext
    match d with
    | ⟨0, _⟩ => show 0 + 1 * b.val = b.val; omega
    | ⟨1, _⟩ => show 0 + 1 * (k.val - 256) = k.val - 256; omega

/-! ## What the windows stage -/

variable (m : (ℓ : Loc nD τ sig) → Buf (Elt F) ℓ) (ρ : Dev nD → PrngReg)

/-- The index maps at point `t`: the rows' and the result's blocks are the `t`-th along the first axis, all else is at zero. -/
theorem index_facts : ∀ t : Fin cfg0.N, t.val < 4
    ∧ win0_0.index t (0 : Fin 2) = t.val ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The staged rows at point `t`: row `a` is the row table's row `8 t + a`. -/
theorem rows_apply (c : Dev nD) (t : Fin cfg0.N) (a : Fin 8) (k : Fin 256) (r : Fin 32) (hr : r.val = t.val * 8 + a.val) :
    X0_0 m c t (ix2 a k) = entry (m ((c : Thread nD τ).loc main_arg1)) r k := by
  obtain ⟨_, e0, e1, _⟩ := index_facts t
  unfold X0_0 Pipeline.Window.fill
  rw [dif_pos (moved0_0 t _)]
  show m ((c : Thread nD τ).loc main_arg1) (((cfg0.win 0).blk t).view.emb _) = _
  unfold entry
  congr 1
  funext d; apply Fin.ext
  match d with
  | ⟨0, _⟩ => show win0_0.index t (0 : Fin 2) * 8 + 1 * a.val = r.val; omega
  | ⟨1, _⟩ => show win0_0.index t (1 : Fin 2) * 256 + 1 * k.val = k.val; omega

/-- The staged columns, the same at every point: row `b` is the column table's row `b`. -/
theorem cols_apply (c : Dev nD) (t : Fin cfg0.N) (b : Fin 32) (k : Fin 256) :
    X0_1 m c t (ix2 b k) = entry (m ((c : Thread nD τ).loc main_arg2)) b k := by
  obtain ⟨_, _, _, e0, e1, _⟩ := index_facts t
  unfold X0_1 Pipeline.Window.fill
  rw [dif_pos (moved0_1 t _)]
  show m ((c : Thread nD τ).loc main_arg2) (((cfg0.win 1).blk t).view.emb _) = _
  unfold entry
  congr 1
  funext d; apply Fin.ext
  match d with
  | ⟨0, _⟩ => show win0_1.index t (0 : Fin 2) * 32 + 1 * b.val = b.val; omega
  | ⟨1, _⟩ => show win0_1.index t (1 : Fin 2) * 256 + 1 * k.val = k.val; omega

/-! ## The kernel's array -/

/-- The embeddings of device `c`'s two tables, channels last: what the kernel's array is shown to hold. -/
abbrev box (c : Dev nD) : Buf (Elt F) ((c : Thread nD τ).loc main_v0) :=
  last (m ((c : Thread nD τ).loc main_arg1)) (m ((c : Thread nD τ).loc main_arg2))

/-- What point `t` writes back is block `t` of the embeddings. -/
theorem flushed_eq (c : Dev nD) (t : Fin cfg0.N) :
    (dats m 0 c).flushed 2 t = ((cfg0.win 2).blk t).view.read (Elt F) (box m c) := by
  obtain ⟨ht, _, _, _, _, e0, e1, e2⟩ := index_facts t
  show (cfg0.win 2).cut (grid0.coords t) ((dats m 0 c).after 2 t) = _
  rw [after0_2]
  funext y
  obtain ⟨a, b, k, rfl⟩ : ∃ (a : Fin 8) (b : Fin 32) (k : Fin 512), y = ix3 a b k := ⟨_, _, _, eq_ix3 y⟩
  have hemb : ((cfg0.win 2).blk t).view.emb (ix3 a b k) = (ix3 (⟨t.val * 8 + a.val, by omega⟩ : Fin 32) b k : S32x32x512.Idx) := by
    funext d; apply Fin.ext
    match d with
    | ⟨0, _⟩ => show win0_2.index t (0 : Fin 3) * 8 + 1 * a.val = t.val * 8 + a.val; omega
    | ⟨1, _⟩ => show win0_2.index t (1 : Fin 3) * 32 + 1 * b.val = b.val; omega
    | ⟨2, _⟩ => show win0_2.index t (2 : Fin 3) * 512 + 1 * k.val = k.val; omega
  refine Eq.trans ?_ (congrArg (box m c) hemb).symm
  show out0_A_2 c (grid0.coords t) (ms0_0 t) (hs0_0 t) (ms0_1 t) (hs0_1 t) (ms0_2 t) (hs0_2 t) (X0_0 m c t) (X0_1 m c t) (ix3 a b k)
    = value _ _ (⟨t.val * 8 + a.val, _⟩ : Fin 32) b k
  rw [out_apply]
  unfold value
  by_cases h : k.val < 256
  · rw [dif_pos h, dif_pos h]
    exact rows_apply m c t a _ _ rfl
  · rw [dif_neg h, dif_neg h]
    exact cols_apply m c t b _

/-- The four blocks tile the array: row `r` is in block `r / 8`. -/
theorem cover (i : S32x32x512.Idx) : ∃ t : Fin cfg0.N, (cfg0.win 2).flush t = true ∧ i ∈ ((cfg0.win 2).blk t).view.set := by
  have h0 : (i 0).val < 32 := (i 0).isLt
  have h1 : (i 1).val < 32 := (i 1).isLt
  have h2 : (i 2).val < 512 := (i 2).isLt
  have hN : cfg0.N = 4 := by decide
  let t : Fin cfg0.N := ⟨(i 0).val / 8, by omega⟩
  obtain ⟨_, _, _, _, _, e0, e1, e2⟩ := index_facts t
  refine ⟨t, flush0_2 t, ?_⟩
  show i ∈ ((View.whole main_v0).slice (win0_2.rect t)).set
  rw [View.set_slice_whole, Rect.mem_set_unit]
  intro d
  match d with
  | ⟨0, _⟩ =>
    show win0_2.index t (0 : Fin 3) * 8 ≤ (i 0).val ∧ (i 0).val < win0_2.index t (0 : Fin 3) * 8 + 8
    have : t.val = (i 0).val / 8 := rfl
    omega
  | ⟨1, _⟩ => show win0_2.index t (1 : Fin 3) * 32 ≤ (i 1).val ∧ (i 1).val < win0_2.index t (1 : Fin 3) * 32 + 32; omega
  | ⟨2, _⟩ => show win0_2.index t (2 : Fin 3) * 512 ≤ (i 2).val ∧ (i 2).val < win0_2.index t (2 : Fin 3) * 512 + 512; omega

/-- So the kernel's array ends holding the embeddings, channels last. -/
theorem final (c : Dev nD) : (dats m 0 c).arrAt 2 cfg0.N = box m c :=
  (dats m 0 c).arrAt_eq_of_cover 2 (box m c) (fun t _ => flushed_eq m c t) cover

/-! ## The whole program -/

/-- After the host's two lines @main's result holds the embeddings, channels first. -/
theorem tail_eq (c : Dev nD) : Pipeline.afterTail₀ cfgs (dats m) 0 (V0 m) [hostOps1] c main_v2
    = first (m ((c : Thread nD τ).loc main_arg1)) (m ((c : Thread nD τ).loc main_arg2)) := by
  have hbox : Pipeline.withArrays (cfgs 0).spec c (V0 m c) (fun w => (dats m 0 c).arrAt w (cfgs 0).N) (Proc.devRef .tc main_v0) = box m c :=
    (Pipeline.withArrays_arr (cfgs 0).spec launch0.win.arr_inj c (V0 m c) _ 2).trans (final m c)
  unfold Pipeline.afterTail₀
  show StableHlo.after hostOps1 _ _ = _
  generalize Pipeline.withArrays (cfgs 0).spec c (V0 m c) (fun w => (dats m 0 c).arrAt w (cfgs 0).N) = W at hbox ⊢
  unfold hostOps1
  after_results
  rw [hbox]
  exact transpose_last _ _ _ _

/-- THE RUN: @main's result ends holding the embeddings of its two tables, its arguments unchanged. -/
theorem run : θ_run defs (onTc (τ := τ) (main (F := F))) ⟨m, fun _ => 0, ρ⟩ fun r => ∀ c : Dev nD,
      r.2.mem ((c.tc : Thread nD τ).loc main_v2)
        = first (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).2 main_v2 (Pipeline.mem_restRefs_of main_v2 (by decide) (by decide))).trans (tail_eq m c), h.2 c⟩)
    (θ_run_and (run_main m ρ) (unchanged m ρ))

end Cert.Kernel.Embed

end
-- ==== Proof.Embed.KernelIdeal.lean ====
/- Hand-written, untrusted: THE KERNEL OVER THE EXTENDED REALS. The idealized kernel replaces no operation, so it is the kernel's
   program under a second name, and the run shown for any float values is its run. -/
module

public import proofs.«01_k».proof.Proof.Embed.Kernel
public import proofs.«01_k».proof.Proof.Gen.KernelIdeal

@[expose] public section

noncomputable section

namespace Cert.KernelIdeal.Embed

open Cert.KernelIdeal Cert.Embed
open Idealize.ShloMosaic Idealize.ShloMosaic.TcCoe Idealize.SL.Sem

variable {F : FTy → Type} [FloatOps F]

/-- The two programs' bodies are one table … -/
theorem bodies_eq : Cert.Kernel.defs₀ (F := F) = defs₀ :=
  congrArg Defs.onTc (funext fun i => funext fun x => match i, x with | 0, (_, _) => rfl)

/-- … and so are the tables their runs call. -/
theorem defs_eq : Cert.Kernel.defs (F := F) = defs := congrArg (Pipeline.defs Cert.Kernel.pcfgs) bodies_eq

/-- THE RUN: @main's result ends holding the embeddings of its two tables, its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
        = first (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  defs_eq (F := F) ▸ Cert.Kernel.Embed.run m ρ

end Cert.KernelIdeal.Embed

end
-- ==== Proof.Embed.Lookup.lean ====
/- Hand-written, untrusted: THE REFERENCE'S LOOKUP. `jnp.take(table, jnp.arange(32), axis=0)` becomes a wrap of negative
   indices, a gather of rows, and a mask that puts NaN where an index is out of range. Every index here is a number below 32, so
   nothing is wrapped, nothing masked, and the gather reads the table's first 32 rows in order. -/
module

public import proofs.«01_k».proof.Proof.Embed.Spec
public import Idealize.ShloMosaic.Lib.ReduceAll
public import Idealize.ShloMosaic.Lib.Routing.Ops

@[expose] public section

namespace Cert.Embed

open Idealize.ShloMosaic Idealize.ShloMosaic.ValueIdx

abbrev S0 : Shape := ⟨0, ![]⟩
abbrev SIx : Shape := ⟨1, ![32]⟩
abbrev SCol : Shape := ⟨2, ![32, 1]⟩
abbrev SOne : Shape := ⟨1, ![1]⟩
abbrev SOneOne : Shape := ⟨2, ![1, 1]⟩

/-- The wrapped indices: `n` where the number `n` is not negative as a word, else `n + 50`. -/
abbrev wrapped (h0 : S0.BroadcastsInDim SIx ![]) : IVec SIx 32 :=
  select (cmpi .slt (iotaInDim SIx 32 0) (broadcastInDim SIx ![] h0 (constantI S0 32 0#32)))
    (addi (iotaInDim SIx 32 0) (broadcastInDim SIx ![] h0 (constantI S0 32 50#32))) (iotaInDim SIx 32 0)

/-- No index below 32 is wrapped. -/
theorem wrapped_apply (h0 : S0.BroadcastsInDim SIx ![]) (n : SIx.Idx) : wrapped h0 n = BitVec.ofNat 32 (n 0).val := by
  have key : ∀ k < 32, Scalar.select (IntOp.cmpi .slt (BitVec.ofNat 32 k) 0#32) (IntOp.addi (BitVec.ofNat 32 k) 50#32)
      (BitVec.ofNat 32 k) = BitVec.ofNat 32 k := by decide
  exact key _ (n 0).isLt

/-- The wrapped indices stood up as a column. -/
abbrev column (h0 : S0.BroadcastsInDim SIx ![]) (h1 : SIx.BroadcastsInDim SCol ![0]) : IVec SCol 32 :=
  broadcastInDim SCol ![0] h1 (wrapped h0)

theorem column_apply (h0 : S0.BroadcastsInDim SIx ![]) (h1 : SIx.BroadcastsInDim SCol ![0]) (i : SCol.Idx) :
    column h0 h1 i = BitVec.ofNat 32 (i 0).val :=
  wrapped_apply h0 _

/-- The mask of the indices in range, all of them. -/
theorem inRange_apply (h0 : S0.BroadcastsInDim SIx ![]) (h1 : SIx.BroadcastsInDim SCol ![0]) (h2 : S0.BroadcastsInDim SCol ![])
    (h3 : SOne.BroadcastsInDim SOneOne ![1]) (h4 : SOneOne.BroadcastsInDim SCol ![0, 1]) (h5 : SCol.ReducesTo [1] SIx)
    (hu : 0 < S0.numel) (j : SIx.Idx) :
    Host.reduce IntOp.andi
      (andi (cmpi .sge (column h0 h1) (broadcastInDim SCol ![] h2 (constantI S0 32 0#32)))
        (cmpi .sle (column h0 h1) (broadcastInDim SCol ![0, 1] h4 (broadcastInDim SOneOne ![1] h3 (constantI SOne 32 49#32)))))
      (constantI S0 1 1#1) h5 hu j = 1#1 := by
  have key : ∀ k < 32, IntOp.andi (IntOp.cmpi .sge (BitVec.ofNat 32 k) 0#32) (IntOp.cmpi .sle (BitVec.ofNat 32 k) 49#32) = 1#1 := by
    decide
  refine Host.reduce_andi_one _ _ h5 hu j rfl fun i => ?_
  show IntOp.andi (IntOp.cmpi .sge (column h0 h1 i) 0#32) (IntOp.cmpi .sle (column h0 h1 i) 49#32) = 1#1
  rw [column_apply]
  exact key _ (i 0).isLt

/-- THE LOOKUP at `(r, k)`: the table's entry there, whatever the masked value `nan` would have been. -/
theorem lookup_apply {α : Type} (x : STable.Idx → α) (nan : SHead.Idx → α)
    (d : GatherDims STable SCol SHead) (hoff : d.offsetDims = [1]) (hcoll : d.collapsedSliceDims = [0]) (hob : d.operandBatchingDims = [])
    (hsim : d.startIndexMap = [0]) (hivd : d.indexVectorDim = 1)
    (h0 : S0.BroadcastsInDim SIx ![]) (h1 : SIx.BroadcastsInDim SCol ![0]) (mask : IVec SIx 1) (hmask : ∀ j, mask j = 1#1)
    (h6 : SIx.BroadcastsInDim SHead ![0]) (r : Fin 32) (k : Fin 256) :
    select (broadcastInDim SHead ![0] h6 mask) (Host.gather d x (column h0 h1)) nan (ix2 r k) = entry x r k := by
  show Scalar.select (mask _) (Host.gather d x (column h0 h1) (ix2 r k)) _ = _
  rw [hmask, select_one]
  exact Routing.gather_row d hoff hcoll hob hsim hivd x _ r k ⟨r.val, by omega⟩ (column_apply h0 h1 _) (by decide)

/-- THE REFERENCE'S ARRANGEMENT of two looked-up tables: the rows' embeddings repeated along the picture's width and the columns'
    along its height, laid side by side in the channels, the channels moved to the front. -/
theorem arrange {α : Type} (row col : STable.Idx → α) (a b : SHead.Idx → α) (ha : ∀ r k, a (ix2 r k) = entry row r k)
    (hb : ∀ r k, b (ix2 r k) = entry col r k)
    (e1 : SHead.BroadcastsInDim ⟨4, ![1, 32, 1, 256]⟩ ![1, 3])
    (e2 : (⟨4, ![1, 32, 1, 256]⟩ : Shape).BroadcastsInDim ⟨4, ![1, 32, 32, 256]⟩ ![0, 1, 2, 3])
    (f1 : SHead.BroadcastsInDim ⟨4, ![1, 1, 32, 256]⟩ ![2, 3])
    (f2 : (⟨4, ![1, 1, 32, 256]⟩ : Shape).BroadcastsInDim ⟨4, ![1, 32, 32, 256]⟩ ![0, 1, 2, 3])
    (hc : Shape.Concatenates [⟨4, ![1, 32, 32, 256]⟩, ⟨4, ![1, 32, 32, 256]⟩] SLast1 3) (ht : SLast1.Transposes [0, 3, 1, 2] SFirst) :
    transpose SFirst [0, 3, 1, 2] (concatenate SLast1 3
      [⟨⟨4, ![1, 32, 32, 256]⟩, broadcastInDim _ ![0, 1, 2, 3] e2 (broadcastInDim _ ![1, 3] e1 a)⟩,
        ⟨⟨4, ![1, 32, 32, 256]⟩, broadcastInDim _ ![0, 1, 2, 3] f2 (broadcastInDim _ ![2, 3] f1 b)⟩] hc) ht = first row col := by
  funext j
  obtain ⟨u, k, r, s, rfl⟩ : ∃ u k r s, j = ix4 u k r s := ⟨_, _, _, _, eq_ix4 j⟩
  refine (transpose_apply _ _ ht _ (ix4 u r s k) fun c => ?_).trans ?_
  · match c with
    | ⟨0, _⟩ => rfl
    | ⟨1, _⟩ => rfl
    | ⟨2, _⟩ => rfl
    | ⟨3, _⟩ => rfl
  show _ = value row col r s k
  by_cases h : k.val < 256
  · rw [value_left _ _ _ _ _ h]
    refine (concatenate_pair_apply_left (t := SLast1) (3 : Fin 4) _ _ hc _ rfl (ix4 u r s ⟨k.val, h⟩) fun c => ?_).trans ?_
    · match c with
      | ⟨0, _⟩ => rfl
      | ⟨1, _⟩ => rfl
      | ⟨2, _⟩ => rfl
      | ⟨3, _⟩ => rfl
    refine (broadcastInDim_apply _ e2 _ _ (ix4 (0 : Fin 1) r (0 : Fin 1) ⟨k.val, h⟩) fun c => ?_).trans ?_
    · match c with
      | ⟨0, _⟩ => rfl
      | ⟨1, _⟩ => rfl
      | ⟨2, _⟩ => rfl
      | ⟨3, _⟩ => rfl
    refine (broadcastInDim_apply _ e1 _ _ (ix2 r ⟨k.val, h⟩) fun c => ?_).trans (ha _ _)
    match c with
    | ⟨0, _⟩ => rfl
    | ⟨1, _⟩ => rfl
  · rw [value_right _ _ _ _ _ h]
    refine (concatenate_pair_apply_right (t := SLast1) (3 : Fin 4) _ _ hc _ rfl rfl (ix4 u r s (⟨k.val - 256, by omega⟩ : Fin 256)) (fun c hn => ?_) ?_).trans ?_
    · match c, hn with
      | ⟨0, _⟩, _ => rfl
      | ⟨1, _⟩, _ => rfl
      | ⟨2, _⟩, _ => rfl
      | ⟨3, _⟩, hn => exact absurd rfl hn
    · show k.val - 256 + 256 = k.val
      omega
    refine (broadcastInDim_apply _ f2 _ _ (ix4 (0 : Fin 1) (0 : Fin 1) s (⟨k.val - 256, by omega⟩ : Fin 256)) fun c => ?_).trans ?_
    · match c with
      | ⟨0, _⟩ => rfl
      | ⟨1, _⟩ => rfl
      | ⟨2, _⟩ => rfl
      | ⟨3, _⟩ => rfl
    refine (broadcastInDim_apply _ f1 _ _ (ix2 s (⟨k.val - 256, by omega⟩ : Fin 256)) fun c => ?_).trans (hb _ _)
    match c with
    | ⟨0, _⟩ => rfl
    | ⟨1, _⟩ => rfl

end Cert.Embed
-- ==== Proof.Embed.Reference.lean ====
/- Hand-written, untrusted: WHAT THE REFERENCE COMPUTES, for any float values: the two lookups (`lookup_apply`) arranged
   (`arrange`). It is stated twice, once for each reading of the floats; the second is the first under another name. -/
module

public import proofs.«01_k».proof.Proof.Embed.Lookup
public import proofs.«01_k».proof.Proof.Gen.Reference.Run
public import proofs.«01_k».proof.Proof.Gen.ReferenceIdeal.Run

@[expose] public section

noncomputable section

namespace Cert.Embed

open Idealize.ShloMosaic Idealize.ShloMosaic.TcCoe Idealize.SL.Sem

variable {F : FTy → Type} [FloatOps F]

section Reference
open Cert.Reference

/-- THE REFERENCE'S RUN: its result ends holding the embeddings of its two tables, its arguments unchanged. -/
theorem reference_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9)
        = first (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (arrange _ _ _ _
      (lookup_apply _ _ gather_S50x256_S32x1_S32x256_1_0_n_n_0_1_1256 rfl rfl rfl rfl rfl _ _ _ (inRange_apply _ _ _ _ _ _ _) _)
      (lookup_apply _ _ gather_S50x256_S32x1_S32x256_1_0_n_n_0_1_1256 rfl rfl rfl rfl rfl _ _ _ (inRange_apply _ _ _ _ _ _ _) _)
      _ _ _ _ _ _), (h c).2⟩)
    (Value.run m ρ)

end Reference

/-- The same program under its second name. -/
theorem referenceIdeal_run (m : (ℓ : Loc Cert.ReferenceIdeal.nD Cert.ReferenceIdeal.τ Cert.ReferenceIdeal.sig) → Buf (Elt F) ℓ)
    (ρ : Dev Cert.ReferenceIdeal.nD → PrngReg) :
    θ_run Cert.ReferenceIdeal.defs (onTc (τ := Cert.ReferenceIdeal.τ) (Cert.ReferenceIdeal.main (F := F))) ⟨m, fun _ => 0, ρ⟩
      fun r => ∀ c : Dev Cert.ReferenceIdeal.nD,
      r.2.mem ((c.tc : Thread _ _).loc Cert.ReferenceIdeal.main_v9)
        = first (m ((c.tc : Thread _ _).loc Cert.ReferenceIdeal.main_arg1)) (m ((c.tc : Thread _ _).loc Cert.ReferenceIdeal.main_arg2))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2) :=
  reference_run m ρ

end Cert.Embed

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Reference
public import proofs.«01_k».proof.Proof.Gen.ReferenceIdeal
public import proofs.«01_k».proof.Proof.Embed.KernelIdeal
public import proofs.«01_k».proof.Proof.Embed.Reference

@[expose] public section

noncomputable section

namespace Cert.Proof

open Idealize.ShloMosaic Idealize.SL.Sem Cert.Embed

/-- The reference's frame: it launches nothing, so no counter can move. -/
theorem frame_Reference : Cert.quiescent_Reference := fun m ρ _ =>
  (θ_run _ _ _).mono (fun r h => ⟨fun c => (h c).2, sem_eq_zero_of_no_sems (by decide) r.2⟩) (reference_run m ρ)

/-- The same of its reading over the extended reals. -/
theorem frame_ReferenceIdeal : Cert.quiescent_ReferenceIdeal := fun m ρ _ =>
  (θ_run _ _ _).mono (fun r h => ⟨fun c => (h c).2, sem_eq_zero_of_no_sems (by decide) r.2⟩) (referenceIdeal_run m ρ)

/-- BIT FOR BIT: from memories that agree on the arguments both programs end at the embeddings of the same two tables. -/
theorem bitexact : Cert.bitexact_Kernel_Reference := fun m g m' g' _ hagree =>
  ⟨fun c => first (m ((c.tc : Thread _ _).loc Cert.Kernel.main_arg1)) (m ((c.tc : Thread _ _).loc Cert.Kernel.main_arg2)),
    Cert.Kernel.Embed.run m g,
    (θ_run _ _ _).mono (fun _ h c => ⟨(h c).1.trans (congrArg₂ first (hagree c).2.1 (hagree c).2.2), (h c).2⟩) (reference_run m' g')⟩

/-- OVER THE EXTENDED REALS: the same, for the idealized programs. -/
theorem algebraic : Cert.algebraic_KernelIdeal_ReferenceIdeal := fun m g m' g' _ hagree =>
  ⟨fun c => first (m ((c.tc : Thread _ _).loc Cert.KernelIdeal.main_arg1)) (m ((c.tc : Thread _ _).loc Cert.KernelIdeal.main_arg2)),
    Cert.KernelIdeal.Embed.run m g,
    (θ_run _ _ _).mono (fun _ h c => ⟨(h c).1.trans (congrArg₂ first (hagree c).2.1 (hagree c).2.2), (h c).2⟩) (referenceIdeal_run m' g')⟩

theorem claim : Cert.Claim :=
  ⟨Cert.Kernel.Gen.facts, Cert.KernelIdeal.Gen.facts, Cert.Reference.Gen.facts, Cert.ReferenceIdeal.Gen.facts,
    fun m ρ _ => Cert.Kernel.Gen.frame m ρ, fun m ρ _ => Cert.KernelIdeal.Gen.frame m ρ, frame_Reference, frame_ReferenceIdeal,
    trivial, bitexact, algebraic⟩

end Cert.Proof

end
